-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x16384x36 : Shape := ⟨3, ![4, 16384, 36]⟩
abbrev S200x848 : Shape := ⟨2, ![200, 848]⟩
abbrev S_ : Shape := ⟨0, ![]⟩

class Facts : Prop where
  bcast_S_S4x16384x36 : S_.BroadcastsInDim S4x16384x36 (![] : Fin 0 → Fin S4x16384x36.rank)
  bitsLt_bf16_f32 : FTy.bits .bf16 < FTy.bits .f32
  bcast_S_S200x848 : S_.BroadcastsInDim S200x848 (![] : Fin 0 → Fin S200x848.rank)

variable [Facts]

def fn {F : FTy → Type} [FloatOps F] (main_arg0 : FVec F S4x16384x36 .f32) (main_arg1 : FVec F S200x848 .bf16) : IVec S4x16384x36 1 × IVec S200x848 1 :=
  let main_v0 : FVec F S4x16384x36 .f32 := Host.absf main_arg0
  let main_cst : FVec F S_ .f32 := constant S_ .f32 0x7F800000#32
  let main_v1 : FVec F S4x16384x36 .f32 := broadcastInDim S4x16384x36 ![] bcast_S_S4x16384x36 main_cst
  let main_v2 : IVec S4x16384x36 1 := cmpf .olt main_v0 main_v1
  let main_v3 : FVec F S200x848 .f32 := (extf .f32 · bitsLt_bf16_f32) main_arg1
  let main_v4 : FVec F S200x848 .f32 := Host.absf main_v3
  let main_cst_0 : FVec F S_ .f32 := constant S_ .f32 0x7F800000#32
  let main_v5 : FVec F S200x848 .f32 := broadcastInDim S200x848 ![] bcast_S_S200x848 main_cst_0
  let main_v6 : IVec S200x848 1 := cmpf .olt main_v4 main_v5
  (main_v2, main_v6)
-- ==== Kernel.lean ====
abbrev S4x16384x36 : Shape := ⟨3, ![4, 16384, 36]⟩
abbrev S200x848 : Shape := ⟨2, ![200, 848]⟩
abbrev S4x16384 : Shape := ⟨2, ![4, 16384]⟩
abbrev S4x512x36 : Shape := ⟨3, ![4, 512, 36]⟩
abbrev S4x512 : Shape := ⟨2, ![4, 512]⟩
abbrev S2048x36 : Shape := ⟨2, ![2048, 36]⟩
abbrev S36x2048 : Shape := ⟨2, ![36, 2048]⟩
abbrev S4x2048 : Shape := ⟨2, ![4, 2048]⟩
abbrev S40x2048 : Shape := ⟨2, ![40, 2048]⟩
abbrev S35x2048 : Shape := ⟨2, ![35, 2048]⟩
abbrev S5x2048 : Shape := ⟨2, ![5, 2048]⟩
abbrev S34x2048 : Shape := ⟨2, ![34, 2048]⟩
abbrev S6x2048 : Shape := ⟨2, ![6, 2048]⟩
abbrev S33x2048 : Shape := ⟨2, ![33, 2048]⟩
abbrev S7x2048 : Shape := ⟨2, ![7, 2048]⟩
abbrev S32x2048 : Shape := ⟨2, ![32, 2048]⟩
abbrev S31x2048 : Shape := ⟨2, ![31, 2048]⟩
abbrev S1x2048 : Shape := ⟨2, ![1, 2048]⟩
abbrev S30x2048 : Shape := ⟨2, ![30, 2048]⟩
abbrev S2x2048 : Shape := ⟨2, ![2, 2048]⟩
abbrev S29x2048 : Shape := ⟨2, ![29, 2048]⟩
abbrev S3x2048 : Shape := ⟨2, ![3, 2048]⟩
abbrev S28x2048 : Shape := ⟨2, ![28, 2048]⟩
abbrev S27x2048 : Shape := ⟨2, ![27, 2048]⟩
abbrev S26x2048 : Shape := ⟨2, ![26, 2048]⟩
abbrev S25x2048 : Shape := ⟨2, ![25, 2048]⟩
abbrev S24x2048 : Shape := ⟨2, ![24, 2048]⟩
abbrev S23x2048 : Shape := ⟨2, ![23, 2048]⟩
abbrev S22x2048 : Shape := ⟨2, ![22, 2048]⟩
abbrev S21x2048 : Shape := ⟨2, ![21, 2048]⟩
abbrev S20x2048 : Shape := ⟨2, ![20, 2048]⟩
abbrev S19x2048 : Shape := ⟨2, ![19, 2048]⟩
abbrev S18x2048 : Shape := ⟨2, ![18, 2048]⟩
abbrev S17x2048 : Shape := ⟨2, ![17, 2048]⟩
abbrev S16x2048 : Shape := ⟨2, ![16, 2048]⟩
abbrev S15x2048 : Shape := ⟨2, ![15, 2048]⟩
abbrev S14x2048 : Shape := ⟨2, ![14, 2048]⟩
abbrev S13x2048 : Shape := ⟨2, ![13, 2048]⟩
abbrev S12x2048 : Shape := ⟨2, ![12, 2048]⟩
abbrev S11x2048 : Shape := ⟨2, ![11, 2048]⟩
abbrev S10x2048 : Shape := ⟨2, ![10, 2048]⟩
abbrev S9x2048 : Shape := ⟨2, ![9, 2048]⟩
abbrev S8x2048 : Shape := ⟨2, ![8, 2048]⟩
abbrev S848x2048 : Shape := ⟨2, ![848, 2048]⟩
abbrev S200x2048 : Shape := ⟨2, ![200, 2048]⟩
abbrev S2048 : Shape := ⟨1, ![2048]⟩

abbrev nBuf : Space → Nat
  | .hbm => 3
  | .vmem => 5
  | .smem => 0
  | _ => 0

abbrev bufTy : (tb : Table) → Fin (tcTables nBuf tb) → BufTy
  | .hbm, ⟨0, _⟩ => ⟨S4x16384x36, .f32⟩
  | .hbm, ⟨1, _⟩ => ⟨S200x848, .bf16⟩
  | .hbm, ⟨2, _⟩ => ⟨S4x16384, .f32⟩
  | .local _ .vmem, ⟨0, _⟩ => ⟨S4x512x36, .f32⟩
  | .local _ .vmem, ⟨1, _⟩ => ⟨S4x512x36, .f32⟩
  | .local _ .vmem, ⟨2, _⟩ => ⟨S200x848, .bf16⟩
  | .local _ .vmem, ⟨3, _⟩ => ⟨S4x512, .f32⟩
  | .local _ .vmem, ⟨4, _⟩ => ⟨S4x512, .f32⟩
  | _, _ => ⟨S4x16384x36, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x512x36 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x848 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x16384x36 : Shape := ⟨3, ![4, 16384, 36]⟩
abbrev S200x848 : Shape := ⟨2, ![200, 848]⟩
abbrev S36x36 : Shape := ⟨2, ![36, 36]⟩
abbrev S65536x36 : Shape := ⟨2, ![65536, 36]⟩
abbrev S36x36x1 : Shape := ⟨3, ![36, 36, 1]⟩
abbrev S200x36x36 : Shape := ⟨3, ![200, 36, 36]⟩
abbrev S_ : Shape := ⟨0, ![]⟩
abbrev S1x36x36 : Shape := ⟨3, ![1, 36, 36]⟩
abbrev S200x36 : Shape := ⟨2, ![200, 36]⟩
abbrev S200x8 : Shape := ⟨2, ![200, 8]⟩
abbrev S200 : Shape := ⟨1, ![200]⟩
abbrev S65536x200x36 : Shape := ⟨3, ![65536, 200, 36]⟩
abbrev S65536x1x36 : Shape := ⟨3, ![65536, 1, 36]⟩
abbrev S65536x200 : Shape := ⟨2, ![65536, 200]⟩
abbrev S36x200 : Shape := ⟨2, ![36, 200]⟩
abbrev S1x200 : Shape := ⟨2, ![1, 200]⟩
abbrev S65536 : Shape := ⟨1, ![65536]⟩
abbrev S65536x1 : Shape := ⟨2, ![65536, 1]⟩
abbrev S4x16384 : Shape := ⟨2, ![4, 16384]⟩

abbrev nBuf : Space → Nat
  | .hbm => 50
  | .vmem => 0
  | .smem => 0
  | _ => 0

abbrev bufTy : (tb : Table) → Fin (tcTables nBuf tb) → BufTy
  | .hbm, ⟨0, _⟩ => ⟨S4x16384x36, .f32⟩
  | .hbm, ⟨1, _⟩ => ⟨S200x848, .bf16⟩
  | .hbm, ⟨2, _⟩ => ⟨S36x36, .i32⟩
  | .hbm, ⟨3, _⟩ => ⟨S65536x36, .f32⟩
  | .hbm, ⟨4, _⟩ => ⟨S200x848, .f32⟩
  | .hbm, ⟨5, _⟩ => ⟨S36x36, .i32⟩
  | .hbm, ⟨6, _⟩ => ⟨S36x36, .i32⟩
  | .hbm, ⟨7, _⟩ => ⟨S36x36, .i1⟩
  | .hbm, ⟨8, _⟩ => ⟨S36x36x1, .i32⟩
  | .hbm, ⟨9, _⟩ => ⟨S200x36x36, .f32⟩
  | .hbm, ⟨10, _⟩ => ⟨S_, .f32⟩
  | .hbm, ⟨11, _⟩ => ⟨S_, .f32⟩
  | .hbm, ⟨12, _⟩ => ⟨S36x36, .f32⟩
  | .hbm, ⟨13, _⟩ => ⟨S36x36, .f32⟩
  | .hbm, ⟨14, _⟩ => ⟨S36x36, .f32⟩
  | .hbm, ⟨15, _⟩ => ⟨S36x36, .f32⟩
  | .hbm, ⟨16, _⟩ => ⟨S1x36x36, .f32⟩
  | .hbm, ⟨17, _⟩ => ⟨S200x36x36, .f32⟩
  | .hbm, ⟨18, _⟩ => ⟨S200x36x36, .f32⟩
  | .hbm, ⟨19, _⟩ => ⟨S200x36, .f32⟩
  | .hbm, ⟨20, _⟩ => ⟨S200x8, .f32⟩
  | .hbm, ⟨21, _⟩ => ⟨S_, .f32⟩
  | .hbm, ⟨22, _⟩ => ⟨S200, .f32⟩
  | .hbm, ⟨23, _⟩ => ⟨S65536x200x36, .f32⟩
  | .hbm, ⟨24, _⟩ => ⟨S65536x1x36, .f32⟩
  | .hbm, ⟨25, _⟩ => ⟨S65536x200x36, .f32⟩
  | .hbm, ⟨26, _⟩ => ⟨S65536x200x36, .f32⟩
  | .hbm, ⟨27, _⟩ => ⟨S_, .f32⟩
  | .hbm, ⟨28, _⟩ => ⟨S65536x200, .f32⟩
  | .hbm, ⟨29, _⟩ => ⟨S36x200, .f32⟩
  | .hbm, ⟨30, _⟩ => ⟨S65536x200, .f32⟩
  | .hbm, ⟨31, _⟩ => ⟨S65536x200, .f32⟩
  | .hbm, ⟨32, _⟩ => ⟨S1x200, .f32⟩
  | .hbm, ⟨33, _⟩ => ⟨S65536x200, .f32⟩
  | .hbm, ⟨34, _⟩ => ⟨S65536x200, .f32⟩
  | .hbm, ⟨35, _⟩ => ⟨S_, .f32⟩
  | .hbm, ⟨36, _⟩ => ⟨S65536x200, .f32⟩
  | .hbm, ⟨37, _⟩ => ⟨S65536x200, .f32⟩
  | .hbm, ⟨38, _⟩ => ⟨S_, .f32⟩
  | .hbm, ⟨39, _⟩ => ⟨S65536, .f32⟩
  | .hbm, ⟨40, _⟩ => ⟨S65536x1, .f32⟩
  | .hbm, ⟨41, _⟩ => ⟨S65536x200, .f32⟩
  | .hbm, ⟨42, _⟩ => ⟨S65536x200, .f32⟩
  | .hbm, ⟨43, _⟩ => ⟨S65536x200, .f32⟩
  | .hbm, ⟨44, _⟩ => ⟨S_, .f32⟩
  | .hbm, ⟨45, _⟩ => ⟨S65536, .f32⟩
  | .hbm, ⟨46, _⟩ => ⟨S65536, .f32⟩
  | .hbm, ⟨47, _⟩ => ⟨S65536, .f32⟩
  | .hbm, ⟨48, _⟩ => ⟨S65536, .f32⟩
  | .hbm, ⟨49, _⟩ => ⟨S4x16384, .f32⟩
  | _, _ => ⟨S4x16384x36, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Rows.lean ====
/- A matrix made by stacking blocks of rows, read row by row, and a weighted sum over its rows. -/
module

public import Idealize.ShloMosaic.Lib.Pipeline.ValueKit
public import Idealize.ShloMosaic.Lib.IdealHost

@[expose] public section

noncomputable section

namespace Cert.Rows

open Idealize.ShloMosaic

/-- A block of some number of rows, each of `C` elements. -/
abbrev Block (C : ℕ) : Type := (n : ℕ) × ((⟨2, ![n, C]⟩ : Shape).Idx → EReal)

/-- The block as a piece of a concatenation. -/
abbrev Block.piece {C : ℕ} (p : Block C) : (s : Shape) × (s.Idx → EReal) := ⟨⟨2, ![p.1, C]⟩, p.2⟩

/-- Row `c` of the stacked blocks, at column `l`. -/
def rowAt {C : ℕ} (l : Fin C) : List (Block C) → ℕ → EReal
  | [], _ => 0
  | p :: ps, c => if h : c < p.1 then p.2 (ix2 ⟨c, h⟩ l) else rowAt l ps (c - p.1)

/-- The weighted sum over the rows of the stacked blocks, block by block, the first row's weight being `w o`. -/
def total {C : ℕ} (w : ℕ → EReal) (l : Fin C) : ℕ → List (Block C) → EReal
  | _, [] => 0
  | o, p :: ps => (∑ i : Fin p.1, w (o + i.val) * p.2 (ix2 i l)) + total w l (o + p.1) ps

/-- The weighted sum over all rows is the sum of the blocks' sums. -/
theorem sum_rowAt {C : ℕ} (w : ℕ → EReal) (l : Fin C) :
    ∀ (L : List (Block C)) (o : ℕ),
      (∑ c ∈ Finset.range (L.map (·.1)).sum, w (o + c) * rowAt l L c) = total w l o L
  | [], o => by simp [total]
  | p :: ps, o => by
    rw [List.map_cons, List.sum_cons, Finset.sum_range_add, total, ← sum_rowAt w l ps (o + p.1)]
    congr 1
    · rw [← Fin.sum_univ_eq_sum_range (fun c => w (o + c) * rowAt l (p :: ps) c)]
      refine Finset.sum_congr rfl fun i _ => ?_
      rw [rowAt, dif_pos i.isLt]
    · refine Finset.sum_congr rfl fun c _ => ?_
      rw [rowAt, dif_neg (by omega), Nat.add_sub_cancel_left, Nat.add_assoc]

/-- The concatenation of the blocks along the rows reads as `rowAt`. -/
theorem concatenateAt_rows {N C : ℕ} (r : Fin N) (l : Fin C) :
    ∀ (L : List (Block C)) (hs) (c : ℕ) (hc),
      concatenateAt ⟨2, ![N, C]⟩ 0 (ix2 r l) (L.map Block.piece) hs c hc = rowAt l L c
  | [], _, _, hc => absurd hc (Nat.not_lt_zero _)
  | [p], hs, c, hc => by
    have h : c < p.1 := by simpa [axisSizes] using hc
    rw [rowAt, dif_pos h]
    refine (concatenateAt_singleton (s := ⟨2, ![p.1, C]⟩) 0 (ix2 r l) p.2 hs c hc).trans (congrArg p.2 ?_)
    funext a
    match a with
    | ⟨0, _⟩ => rfl
    | ⟨1, _⟩ => rfl
  | p :: q :: ps, hs, c, hc => by
    refine (concatenateAt_cons (s := ⟨2, ![p.1, C]⟩) 0 (ix2 r l) p.2 q.piece (ps.map Block.piece) hs c hc).trans ?_
    rw [rowAt]
    by_cases h : c < p.1
    · rw [dif_pos h]
      refine (dif_pos h).trans (congrArg p.2 ?_)
      funext a
      match a with
      | ⟨0, _⟩ => rfl
      | ⟨1, _⟩ => rfl
    · rw [dif_neg h]
      refine (dif_neg h).trans ?_
      exact concatenateAt_rows r l (q :: ps) _ _ _

/-- The weighted sum over the rows of a concatenation of blocks, block by block. -/
theorem sum_concatenate {N C : ℕ} (w : ℕ → EReal) (l : Fin C) (L : List (Block C)) (hN : (L.map (·.1)).sum = N)
    (h : Shape.Concatenates ((L.map Block.piece).map (·.1)) ⟨2, ![N, C]⟩ 0) :
    (∑ c : Fin N, w c.val * concatenate ⟨2, ![N, C]⟩ 0 (L.map Block.piece) h (ix2 c l)) = total w l 0 L := by
  subst hN
  rw [← sum_rowAt, ← Fin.sum_univ_eq_sum_range (fun c => w (0 + c) * rowAt l L c)]
  refine Finset.sum_congr rfl fun c _ => ?_
  rw [Nat.zero_add, concatenate_apply, concatenateAt_rows]
  rfl

/-- Row `i` of a matrix at column `l`, zero past the last row. -/
def row {D C : ℕ} (X : (⟨2, ![D, C]⟩ : Shape).Idx → EReal) (l : Fin C) (i : ℕ) : EReal :=
  if h : i < D then X (ix2 ⟨i, h⟩ l) else 0

/-- The sum for the block of the products of the rows `i` and `i + r`, `i < n`. -/
theorem sum_product {D C n : ℕ} (r : ℕ) (hr : r + n ≤ D) (X : (⟨2, ![D, C]⟩ : Shape).Idx → EReal)
    (h0 : (⟨2, ![D, C]⟩ : Shape).Slices ![0, 0] ⟨2, ![n, C]⟩) (h1 : (⟨2, ![D, C]⟩ : Shape).Slices ![r, 0] ⟨2, ![n, C]⟩)
    (w : ℕ → EReal) (l : Fin C) (o : ℕ) :
    (∑ i : Fin n, w (o + i.val) * (mulf (F := Ideal) (φ := .bf16) (extractStridedSlice ⟨2, ![n, C]⟩ ![0, 0] X h0)
        (extractStridedSlice ⟨2, ![n, C]⟩ ![r, 0] X h1)) (ix2 i l))
      = ∑ i ∈ Finset.range n, w (o + i) * (row X l i * row X l (i + r)) := by
  rw [← Fin.sum_univ_eq_sum_range (fun i => w (o + i) * (row X l i * row X l (i + r)))]
  refine Finset.sum_congr rfl fun i _ => ?_
  have hi := i.isLt
  rw [row, row, dif_pos (by omega), dif_pos (by omega)]
  refine congrArg (w (o + i.val) * ·) (congrArg₂ (· * ·) (congrArg X ?_) (congrArg X ?_)) <;>
  · funext a
    match a with
    | ⟨0, _⟩ => exact Fin.ext (by simp [Nat.add_comm])
    | ⟨1, _⟩ => exact Fin.ext (by simp)

/-- Rows of zeros below a block add nothing to its sum. -/
theorem sum_padded {C n p L : ℕ} (hL : n + p = L) (Y : (⟨2, ![n, C]⟩ : Shape).Idx → EReal)
    (h : Shape.Concatenates ([⟨⟨2, ![n, C]⟩, Y⟩, ⟨⟨2, ![p, C]⟩, broadcast ⟨2, ![p, C]⟩ (Scalar.ofBits (F := Ideal) .bf16 0x0000#16)⟩].map
      (Sigma.fst : ((s : Shape) × (s.Idx → EReal)) → Shape)) ⟨2, ![L, C]⟩ 0) (w : ℕ → EReal) (l : Fin C) (o : ℕ) :
    (∑ i : Fin L, w (o + i.val) * concatenate ⟨2, ![L, C]⟩ 0 [⟨⟨2, ![n, C]⟩, Y⟩,
        ⟨⟨2, ![p, C]⟩, broadcast ⟨2, ![p, C]⟩ (Scalar.ofBits (F := Ideal) .bf16 0x0000#16)⟩] h (ix2 i l))
      = ∑ i : Fin n, w (o + i.val) * Y (ix2 i l) := by
  have e := sum_concatenate (fun c => w (o + c)) l
    [⟨n, Y⟩, ⟨p, broadcast ⟨2, ![p, C]⟩ (Scalar.ofBits (F := Ideal) .bf16 0x0000#16)⟩] (N := L) (by simp [hL]) h
  refine e.trans ?_
  have z : ∀ i, broadcast (⟨2, ![p, C]⟩ : Shape) (Scalar.ofBits (F := Ideal) .bf16 0x0000#16) i = (0 : EReal) :=
    fun _ => Ideal.ofBits_zero_bf16
  simp only [total, z, mul_zero, Finset.sum_const_zero, add_zero, Nat.zero_add]

end Cert.Rows

end
-- ==== Proof.Quad.lean ====
/- A quadratic form read by diagonals: the sum over the diagonals of a packed symmetric matrix is the form itself. -/
module

public import Idealize.ShloMosaic.Lib.Pipeline.ValueKit
public import Mathlib.Algebra.BigOperators.Intervals

@[expose] public section

noncomputable section

namespace Cert.Quad

/-- The column at which the `r`-th diagonal starts: the lengths of those before it, each rounded up to a multiple of 8. -/
def off : ℕ → ℕ
  | 0 => 0
  | r + 1 => off r + (36 - r + 7) / 8 * 8

/-- The column that holds the entry `(i, j)` of the packed matrix: on the diagonal `|i - j|`, at the smaller index. -/
def col (i j : ℕ) : ℕ := off (max i j - min i j) + min i j

/-- The part of the weighted sum that belongs to the `r`-th diagonal. -/
def diag (w x : ℕ → EReal) (r : ℕ) : EReal := ∑ i ∈ Finset.range (36 - r), w (off r + i) * (x i * x (i + r))

/-- The part of the weighted sum that belongs to the elements themselves and to the ones. -/
def affine (w x : ℕ → EReal) : EReal := (∑ i ∈ Finset.range 36, w (800 + i) * x i) + ∑ i ∈ Finset.range 8, w (840 + i)

/-- The sum over a square of a symmetric function, by diagonals: those off the main one count twice. -/
theorem sum_square_symm (G : ℕ → ℕ → ℝ) (hG : ∀ i j, G i j = G j i) (n : ℕ) :
    (∑ j ∈ Finset.range n, ∑ i ∈ Finset.range n, G i j)
      = ∑ r ∈ Finset.range n, (if r = 0 then 1 else 2) * ∑ i ∈ Finset.range (n - r), G i (i + r) := by
  induction n with
  | zero => simp
  | succ n ih =>
    have hl : (∑ j ∈ Finset.range (n + 1), ∑ i ∈ Finset.range (n + 1), G i j)
        = (∑ j ∈ Finset.range n, ∑ i ∈ Finset.range n, G i j) + (2 * (∑ i ∈ Finset.range n, G i n) + G n n) := by
      simp only [Finset.sum_range_succ, Finset.sum_add_distrib]
      rw [Finset.sum_congr rfl fun j _ => hG n j]
      ring
    have hr : (∑ r ∈ Finset.range (n + 1), (if r = 0 then (1 : ℝ) else 2) * ∑ i ∈ Finset.range (n + 1 - r), G i (i + r))
        = (∑ r ∈ Finset.range (n + 1), (if r = 0 then (1 : ℝ) else 2) * ∑ i ∈ Finset.range (n - r), G i (i + r))
          + ∑ r ∈ Finset.range (n + 1), (if r = 0 then (1 : ℝ) else 2) * G (n - r) n := by
      rw [← Finset.sum_add_distrib]
      refine Finset.sum_congr rfl fun r h => ?_
      have hle : r ≤ n := Nat.lt_succ_iff.1 (Finset.mem_range.1 h)
      rw [Nat.succ_sub hle, Finset.sum_range_succ, Nat.sub_add_cancel hle]
      ring
    have hs : (∑ r ∈ Finset.range (n + 1), (if r = 0 then (1 : ℝ) else 2) * G (n - r) n)
        = 2 * (∑ i ∈ Finset.range n, G i n) + G n n := by
      rw [← Finset.sum_range_reflect, Finset.sum_range_succ, Finset.mul_sum]
      congr 1
      · refine Finset.sum_congr rfl fun i h => ?_
        have hi := Finset.mem_range.1 h
        rw [if_neg (by omega), show n - (n + 1 - 1 - i) = i by omega]
      · rw [if_pos (by omega), show n - (n + 1 - 1 - n) = n by omega, one_mul]
    rw [hl, hr, hs, ih, Finset.sum_range_succ _ n]
    simp

/-- The sum over the diagonals is the quadratic form of the packed matrix, its entries off the main diagonal halved. -/
theorem quad (w x : ℕ → ℝ) :
    (∑ r ∈ Finset.range 36, ∑ i ∈ Finset.range (36 - r), w (off r + i) * (x i * x (i + r)))
      = ∑ j ∈ Finset.range 36, (∑ i ∈ Finset.range 36, x i * (w (col i j) * if i = j then 1 else 1 / 2)) * x j := by
  have h := sum_square_symm (fun i j => x i * (w (col i j) * if i = j then 1 else 1 / 2) * x j)
    (fun i j => by
      rw [show col i j = col j i by rw [col, col, max_comm, min_comm]]
      by_cases e : i = j
      · rw [e]
      · rw [if_neg e, if_neg (Ne.symm e)]; ring) 36
  simp only [Finset.sum_mul]
  rw [h]
  refine Finset.sum_congr rfl fun r _ => ?_
  rw [Finset.mul_sum]
  refine Finset.sum_congr rfl fun i _ => ?_
  have hc : col i (i + r) = off r + i := by
    rw [col, max_eq_right (by omega), min_eq_left (by omega), Nat.add_sub_cancel_left]
  rw [hc]
  by_cases e : r = 0
  · subst e; simp; ring
  · rw [if_neg e, if_neg (by omega)]; ring

/-- A sum of reals, taken among the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- For finite coefficients and elements, the weighted sum of the features is the form, the linear term and the constant. -/
theorem score (w x : ℕ → EReal) (f : ℕ → ℕ → EReal) (hw : ∀ c, ∃ r : ℝ, w c = r) (hx : ∀ i, ∃ r : ℝ, x i = r)
    (hf : ∀ i j, f i j = ((if i = j then 1 else 1 / 2 : ℝ) : EReal)) :
    (∑ r ∈ Finset.range 36, diag w x r) + affine w x
      = (∑ j ∈ Finset.range 36, (∑ i ∈ Finset.range 36, x i * (w (col i j) * f i j)) * x j)
        + (∑ i ∈ Finset.range 36, x i * w (800 + i)) + ∑ i ∈ Finset.range 8, w (840 + i) := by
  choose w' hw using hw
  choose x' hx using hx
  simp only [diag, affine, hw, hx, hf, ← EReal.coe_mul, coe_sum, ← EReal.coe_add, quad, add_assoc]
  simp only [mul_comm (x' _) (w' (800 + _))]

open Idealize.ShloMosaic in
/-- The log-sum-exp of a patch's scores, negated. -/
def nll (s : Fin 200 → EReal) : EReal :=
  -(Ideal.log (∑ k, Ideal.exp (s k - Finset.fold max (Ideal.ofBits .f32 0xFF800000#32) s Finset.univ))
    + Finset.fold max (Ideal.ofBits .f32 0xFF800000#32) s Finset.univ)

end Cert.Quad

end
-- ==== Proof.Features.lean ====
/- The kernel's matrix of features: the products of a patch's elements, diagonal by diagonal, the elements themselves and
   ones. A weighted sum over its rows, as sums over the diagonals. -/
module

public import proofs.«01_k».proof.Proof.Rows
public import proofs.«01_k».proof.Proof.Quad
public import proofs.«01_k».proof.Proof.Gen.KernelIdeal.Frame

@[expose] public section

set_option maxRecDepth 16384

noncomputable section

namespace Cert.Features

open Idealize.ShloMosaic Cert.Rows Cert.Quad Cert.KernelIdeal Cert.KernelIdeal.Gen

/-- The sum for the block of the squares. -/
theorem sum_square {D C : ℕ} (X : (⟨2, ![D, C]⟩ : Shape).Idx → EReal) (w : ℕ → EReal) (l : Fin C) (o : ℕ) :
    (∑ i : Fin D, w (o + i.val) * (mulf (F := Ideal) (φ := .bf16) X X) (ix2 i l))
      = ∑ i ∈ Finset.range D, w (o + i) * (row X l i * row X l (i + 0)) := by
  rw [← Fin.sum_univ_eq_sum_range (fun i => w (o + i) * (row X l i * row X l (i + 0)))]
  refine Finset.sum_congr rfl fun i _ => ?_
  rw [Nat.add_zero, row, dif_pos i.isLt]
  rfl

/-- The sum for the block of the elements themselves. -/
theorem sum_self {D C : ℕ} (X : (⟨2, ![D, C]⟩ : Shape).Idx → EReal) (w : ℕ → EReal) (l : Fin C) (o : ℕ) :
    (∑ i : Fin D, w (o + i.val) * X (ix2 i l)) = ∑ i ∈ Finset.range D, w (o + i) * row X l i := by
  rw [← Fin.sum_univ_eq_sum_range (fun i => w (o + i) * row X l i)]
  refine Finset.sum_congr rfl fun i _ => ?_
  rw [row, dif_pos i.isLt]

/-- The sum for the rows of zeros and the rows of ones at the end. -/
theorem total_end {C n m : ℕ} (w : ℕ → EReal) (l : Fin C) (o : ℕ) :
    total w l o [⟨n, broadcast ⟨2, ![n, C]⟩ (Scalar.ofBits (F := Ideal) .bf16 0x0000#16)⟩,
        ⟨m, broadcast ⟨2, ![m, C]⟩ (Scalar.ofBits (F := Ideal) .bf16 0x3F80#16)⟩]
      = ∑ i ∈ Finset.range m, w (o + n + i) := by
  have z : ∀ i, broadcast (⟨2, ![n, C]⟩ : Shape) (Scalar.ofBits (F := Ideal) .bf16 0x0000#16) i = (0 : EReal) :=
    fun _ => Ideal.ofBits_zero_bf16
  have u : ∀ i, broadcast (⟨2, ![m, C]⟩ : Shape) (Scalar.ofBits (F := Ideal) .bf16 0x3F80#16) i = (1 : EReal) :=
    fun _ => Ideal.ofBits_one_bf16
  simp only [total, z, u, mul_zero, mul_one, Finset.sum_const_zero, add_zero, zero_add]
  exact Fin.sum_univ_eq_sum_range (fun i => w (o + n + i)) m

/-- What the kernel does with the matrix `P` of features and the table `W` of coefficients: the quadratic forms, and their
    log-sum-exp over the components. -/
def tail (P : FVec Ideal S848x2048 .bf16) (W : FVec Ideal S200x848 .bf16) : FVec Ideal S4x512 .f32 :=
  let s : FVec Ideal S200x2048 .f32 := mulf (broadcast S200x2048 (Scalar.ofBits .f32 0xBF000000#32))
    (matmul dot_S200x848_S848x2048_S200x2048_1_0_0_1_n_n none W P (constant S200x2048 .f32 0x00000000#32))
  let m : FVec Ideal S1x2048 .f32 :=
    shapeCast S1x2048 (multiReduction .maximumf [0] S2048 s 0xFF800000#32 reduces_S200x2048_S2048 (.inl rfl) rfl) shapeCasts_S2048_S1x2048
  let e : FVec Ideal S1x2048 .f32 :=
    shapeCast S1x2048 (multiReduction .add [0] S2048 (exp (subf s (broadcastTo S200x2048 m broadcasts_S1x2048_S200x2048)))
      0x00000000#32 reduces_S200x2048_S2048 (.inl rfl) rfl) shapeCasts_S2048_S1x2048
  shapeCast S4x512 (subf (broadcast S1x2048 (Scalar.ofBits .f32 0x00000000#32)) (addf (log e) m)) shapeCasts_S1x2048_S4x512

/-- The block `p` is that of the `r`-th diagonal: of its height, and with its weighted sum. -/
structure IsDiag {C : ℕ} (X : (⟨2, ![36, C]⟩ : Shape).Idx → EReal) (r : ℕ) (p : Block C) : Prop where
  height : p.1 = (36 - r + 7) / 8 * 8
  sum : ∀ (w : ℕ → EReal) (l : Fin C) (o : ℕ),
    (∑ i : Fin p.1, w (o + i.val) * p.2 (ix2 i l)) = ∑ i ∈ Finset.range (36 - r), w (o + i) * (row X l i * row X l (i + r))

/-- The products of the rows `i` and `i + r`, where no row of zeros is needed. -/
theorem isDiag_product {C n r : ℕ} (X : (⟨2, ![36, C]⟩ : Shape).Idx → EReal) (h0) (h1)
    (hn : 36 - r = n) (hr : r ≤ 36) (hL : n = (36 - r + 7) / 8 * 8) :
    IsDiag X r ⟨n, mulf (F := Ideal) (φ := .bf16) (extractStridedSlice ⟨2, ![n, C]⟩ ![0, 0] X h0)
      (extractStridedSlice ⟨2, ![n, C]⟩ ![r, 0] X h1)⟩ :=
  ⟨hL, fun w l o => by subst hn; exact sum_product r (by omega) X h0 h1 w l o⟩

/-- The products of the rows `i` and `i + r`, with rows of zeros below them. -/
theorem isDiag_padded {C n p L r : ℕ} (X : (⟨2, ![36, C]⟩ : Shape).Idx → EReal) (h0) (h1) (hc)
    (hn : 36 - r = n) (hr : r ≤ 36) (hp : n + p = L) (hL : L = (36 - r + 7) / 8 * 8) :
    IsDiag X r ⟨L, concatenate ⟨2, ![L, C]⟩ 0 [⟨⟨2, ![n, C]⟩, mulf (F := Ideal) (φ := .bf16)
        (extractStridedSlice ⟨2, ![n, C]⟩ ![0, 0] X h0) (extractStridedSlice ⟨2, ![n, C]⟩ ![r, 0] X h1)⟩,
      ⟨⟨2, ![p, C]⟩, broadcast ⟨2, ![p, C]⟩ (Scalar.ofBits (F := Ideal) .bf16 0x0000#16)⟩] hc⟩ :=
  ⟨hL, fun w l o => by subst hn; exact (sum_padded hp _ hc w l o).trans (sum_product r (by omega) X h0 h1 w l o)⟩

/-- The squares of the rows, with rows of zeros below them. -/
theorem isDiag_square {C p L : ℕ} (X : (⟨2, ![36, C]⟩ : Shape).Idx → EReal) (hc) (hp : 36 + p = L) (hL : L = 40) :
    IsDiag X 0 ⟨L, concatenate ⟨2, ![L, C]⟩ 0 [⟨⟨2, ![36, C]⟩, mulf (F := Ideal) (φ := .bf16) X X⟩,
      ⟨⟨2, ![p, C]⟩, broadcast ⟨2, ![p, C]⟩ (Scalar.ofBits (F := Ideal) .bf16 0x0000#16)⟩] hc⟩ :=
  ⟨hL, fun w l o => (sum_padded hp _ hc w l o).trans (sum_square X w l o)⟩

/-- The blocks are those of consecutive diagonals, from the `r`-th on. -/
def Diags {C : ℕ} (X : (⟨2, ![36, C]⟩ : Shape).Idx → EReal) : ℕ → List (Block C) → Prop
  | _, [] => True
  | r, p :: ps => IsDiag X r p ∧ Diags X (r + 1) ps

/-- The weighted sum over the rows of consecutive diagonals and of what lies below them. -/
theorem total_diags {C : ℕ} (X : (⟨2, ![36, C]⟩ : Shape).Idx → EReal) (w : ℕ → EReal) (l : Fin C) (R : List (Block C)) :
    ∀ (ps : List (Block C)) (r : ℕ), Diags X r ps →
      total w l (off r) (ps ++ R)
        = (∑ s ∈ Finset.range ps.length, diag w (row X l) (r + s)) + total w l (off (r + ps.length)) R
  | [], r, _ => by simp
  | p :: ps, r, h => by
    have e : off r + p.1 = off (r + 1) := by rw [h.1.height, off]
    rw [List.cons_append, total, e, total_diags X w l R ps (r + 1) h.2, h.1.sum w l (off r), List.length_cons,
      Finset.sum_range_succ', add_comm (∑ s ∈ Finset.range ps.length, diag w (row X l) (r + (s + 1))) _, add_assoc]
    simp only [Nat.add_zero, Nat.add_assoc, Nat.add_comm 1, diag]
    rw [add_assoc]

/-- The block of the products of the rows `i` and `i + r`, `i < n`, with `p` rows of zeros below it. -/
def padded {n p L r : ℕ} (h0 : S36x2048.Slices ![0, 0] ⟨2, ![n, 2048]⟩) (h1 : S36x2048.Slices ![r, 0] ⟨2, ![n, 2048]⟩)
    (hc : Shape.Concatenates [⟨2, ![n, 2048]⟩, ⟨2, ![p, 2048]⟩] ⟨2, ![L, 2048]⟩ 0) (X : S36x2048.Idx → EReal) : Block 2048 :=
  ⟨L, concatenate ⟨2, ![L, 2048]⟩ 0 [⟨⟨2, ![n, 2048]⟩, mulf (F := Ideal) (φ := .bf16) (extractStridedSlice ⟨2, ![n, 2048]⟩ ![0, 0] X h0)
      (extractStridedSlice ⟨2, ![n, 2048]⟩ ![r, 0] X h1)⟩,
    ⟨⟨2, ![p, 2048]⟩, broadcast ⟨2, ![p, 2048]⟩ (Scalar.ofBits (F := Ideal) .bf16 0x0000#16)⟩] hc⟩

variable (x0 : Vec Ideal S4x512x36 .f32)

/-- The blocks of the 36 diagonals of a block `x0` of patches. -/
def diags : List (Block 2048) :=
  [⟨40, k0_pay2 x0⟩, ⟨40, k0_pay3 x0⟩, ⟨40, k0_pay4 x0⟩, ⟨40, k0_pay5 x0⟩, ⟨32, k0_pay6 x0⟩, ⟨32, k0_pay7 x0⟩,
   ⟨32, k0_pay8 x0⟩, ⟨32, k0_pay9 x0⟩, ⟨32, k0_pay10 x0⟩, ⟨32, k0_pay12 (k0_pay11 x0)⟩, ⟨32, k0_pay13 (k0_pay1 x0)⟩,
   ⟨32, k0_pay14 (k0_pay1 x0)⟩, ⟨24, k0_pay15 (k0_pay1 x0)⟩, ⟨24, k0_pay16 (k0_pay1 x0)⟩, ⟨24, k0_pay17 (k0_pay1 x0)⟩,
   ⟨24, k0_pay18 (k0_pay1 x0)⟩, ⟨24, k0_pay19 (k0_pay1 x0)⟩, ⟨24, k0_pay20 (k0_pay1 x0)⟩, ⟨24, k0_pay21 (k0_pay1 x0)⟩,
   ⟨24, k0_pay22 (k0_pay1 x0)⟩, ⟨16, k0_pay23 (k0_pay1 x0)⟩, ⟨16, k0_pay24 (k0_pay1 x0)⟩, ⟨16, k0_pay25 (k0_pay1 x0)⟩,
   ⟨16, k0_pay26 (k0_pay1 x0)⟩, ⟨16, k0_pay27 (k0_pay1 x0)⟩, ⟨16, k0_pay28 (k0_pay1 x0)⟩, ⟨16, k0_pay29 (k0_pay1 x0)⟩,
   ⟨16, k0_pay30 (k0_pay1 x0)⟩, ⟨8, k0_pay31 (k0_pay1 x0)⟩, ⟨8, k0_pay32 (k0_pay1 x0)⟩, ⟨8, k0_pay33 (k0_pay1 x0)⟩,
   padded slices_S36x2048_o0_0_S5x2048 slices_S36x2048_o31_0_S5x2048 concatenates_S5x2048_S3x2048_S8x2048_d0 (k0_pay1 x0),
   padded slices_S36x2048_o0_0_S4x2048 slices_S36x2048_o32_0_S4x2048 concatenates_S4x2048_S4x2048_S8x2048_d0 (k0_pay1 x0),
   padded slices_S36x2048_o0_0_S3x2048 slices_S36x2048_o33_0_S3x2048 concatenates_S3x2048_S5x2048_S8x2048_d0 (k0_pay1 x0),
   padded slices_S36x2048_o0_0_S2x2048 slices_S36x2048_o34_0_S2x2048 concatenates_S2x2048_S6x2048_S8x2048_d0 (k0_pay1 x0),
   padded slices_S36x2048_o0_0_S1x2048 slices_S36x2048_o35_0_S1x2048 concatenates_S1x2048_S7x2048_S8x2048_d0 (k0_pay1 x0)]

/-- The blocks below them: the elements themselves, zeros and ones. -/
def ends : List (Block 2048) :=
  [⟨36, k0_pay1 x0⟩, ⟨4, broadcast _ (Scalar.ofBits (F := Ideal) .bf16 0x0000#16)⟩,
   ⟨8, broadcast _ (Scalar.ofBits (F := Ideal) .bf16 0x3F80#16)⟩]

/-- The matrix of features of a block of patches. -/
def feat : FVec Ideal S848x2048 .bf16 :=
  concatenate S848x2048 0 ((diags x0 ++ ends x0).map Block.piece)
    concatenates_S40x2048_S40x2048_S40x2048_S40x2048_S32x2048_S32x2048_S32x2048_S32x2048_S32x2048_S32x2048_S32x2048_S32x2048_S24x2048_S24x2048_S24x2048_S24x2048_S24x2048_S24x2048_S24x2048_S24x2048_S16x2048_S16x2048_S16x2048_S16x2048_S16x2048_S16x2048_S16x2048_S16x2048_S8x2048_S8x2048_S8x2048_S8x2048_S8x2048_S8x2048_S8x2048_S8x2048_S36x2048_S4x2048_S8x2048_S848x2048_d0

/-- The kernel's payload is `tail` of the matrix of features. -/
theorem payload (x1 : Vec Ideal S200x848 .bf16) :
    k0_pay34 (k0_pay1 x0) (k0_pay2 x0) (k0_pay3 x0) (k0_pay4 x0) (k0_pay5 x0) (k0_pay6 x0) (k0_pay7 x0) (k0_pay8 x0) (k0_pay9 x0) (k0_pay10 x0) (k0_pay12 (k0_pay11 x0)) (k0_pay13 (k0_pay1 x0)) (k0_pay14 (k0_pay1 x0)) (k0_pay15 (k0_pay1 x0)) (k0_pay16 (k0_pay1 x0)) (k0_pay17 (k0_pay1 x0)) (k0_pay18 (k0_pay1 x0)) (k0_pay19 (k0_pay1 x0)) (k0_pay20 (k0_pay1 x0)) (k0_pay21 (k0_pay1 x0)) (k0_pay22 (k0_pay1 x0)) (k0_pay23 (k0_pay1 x0)) (k0_pay24 (k0_pay1 x0)) (k0_pay25 (k0_pay1 x0)) (k0_pay26 (k0_pay1 x0)) (k0_pay27 (k0_pay1 x0)) (k0_pay28 (k0_pay1 x0)) (k0_pay29 (k0_pay1 x0)) (k0_pay30 (k0_pay1 x0)) (k0_pay31 (k0_pay1 x0)) (k0_pay32 (k0_pay1 x0)) (k0_pay33 (k0_pay1 x0)) x1
      = tail (feat x0) x1 := rfl

set_option maxHeartbeats 800000 in
/-- The first 36 blocks are the 36 diagonals. -/
theorem diags_diags : Diags (k0_pay1 x0) 0 (diags x0) := by
  simp only [diags, Diags, Nat.reduceAdd, padded,
    k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  generalize k0_pay1 x0 = X
  repeat' apply And.intro
  all_goals
    with_reducible first
      | exact trivial
      | refine isDiag_padded X _ _ _ ?_ ?_ ?_ ?_
      | refine isDiag_product X _ _ ?_ ?_ ?_
      | refine isDiag_square X _ ?_ ?_
  all_goals decide

/-- The matrix of features has 848 rows. -/
theorem rows_feat : ((diags x0 ++ ends x0).map (·.1)).sum = 848 := by
  simp [diags, ends, padded]

/-- A weighted sum over the rows of the matrix of features. -/
theorem sum_feat (w : ℕ → EReal) (l : Fin 2048) :
    (∑ c : Fin 848, w c.val * feat x0 (ix2 c l))
      = (∑ r ∈ Finset.range 36, diag w (row (k0_pay1 x0) l) r) + affine w (row (k0_pay1 x0) l) := by
  refine (sum_concatenate (N := 848) w l (diags x0 ++ ends x0) (rows_feat x0) _).trans ?_
  refine (total_diags (k0_pay1 x0) w l (ends x0) (diags x0) 0 (diags_diags x0)).trans ?_
  have e : total w l (off (0 + (diags x0).length)) (ends x0) = affine w (row (k0_pay1 x0) l) := by
    have hl : (diags x0).length = 36 := by simp only [diags, List.length_cons, List.length_nil]
    have ho : off (0 + (diags x0).length) = 800 := by rw [hl]; decide
    rw [ho, ends, total, total_end, sum_self, affine]
    rfl
  rw [e]
  refine congrArg (· + _) (Finset.sum_congr rfl fun r _ => by rw [Nat.zero_add])

end Cert.Features

end
-- ==== Proof.Point.lean ====
/- What the kernel writes for a block of patches, element by element. -/
module

public import proofs.«01_k».proof.Proof.Features
public import proofs.«01_k».proof.Proof.Gen.KernelIdeal.Value

@[expose] public section

set_option maxRecDepth 16384

noncomputable section

namespace Cert.Point

open Idealize.ShloMosaic Idealize.ShloMosaic.TcCoe Cert.Rows Cert.Quad Cert.Features Cert.KernelIdeal Cert.KernelIdeal.Gen

/-- The kernel's last steps, read at an index. -/
theorem tail_apply (P : FVec Ideal S848x2048 .bf16) (W : FVec Ideal S200x848 .bf16) (b : Fin 4) (q : Fin 512) :
    tail P W (ix2 b q) = nll fun k => Ideal.ofBits .f32 0xBF000000#32
      * ∑ c : Fin 848, W (ix2 k c) * P (ix2 c ⟨b.val * 512 + q.val, by omega⟩) := by
  pointwise [tail]
  rw [sub_eq_add_neg, zero_add]
  rfl

/-- Row `k` of the table of coefficients, zero past its last column. -/
def coef (W : FVec Ideal S200x848 .bf16) (k : Fin 200) (c : ℕ) : EReal := if h : c < 848 then W (ix2 k ⟨c, h⟩) else 0

/-- The elements of patch `q` of batch `b` of a block, zero past the last. -/
def elem {n : ℕ} (x : FVec Ideal ⟨3, ![4, n, 36]⟩ .f32) (b : Fin 4) (q : Fin n) (i : ℕ) : EReal :=
  if h : i < 36 then x (ix3 b q ⟨i, h⟩) else 0

/-- The rows of the transposed block are the patches' elements. -/
theorem row_pay1 (x0 : FVec Ideal S4x512x36 .f32) (b : Fin 4) (q : Fin 512) (i : ℕ) :
    row (k0_pay1 (F := Ideal) x0) (⟨b.val * 512 + q.val, by omega⟩ : Fin 2048) i = elem x0 b q i := by
  unfold row elem
  split_ifs with h
  · pointwise [k0_pay1]
  · rfl

/-- A component's score, by diagonals. -/
def dens (w x : ℕ → EReal) : EReal :=
  Ideal.ofBits .f32 0xBF000000#32 * ((∑ r ∈ Finset.range 36, diag w x r) + affine w x)

/-- What the kernel writes for patch `q` of batch `b` of a block. -/
theorem tail_feat (x0 : FVec Ideal S4x512x36 .f32) (W : FVec Ideal S200x848 .bf16) (b : Fin 4) (q : Fin 512) :
    tail (feat x0) W (ix2 b q) = nll fun k => dens (coef W k) (elem x0 b q) := by
  rw [tail_apply]
  refine congrArg nll (funext fun k => congrArg (Ideal.ofBits .f32 0xBF000000#32 * ·) ?_)
  have h := sum_feat x0 (coef W k) (⟨b.val * 512 + q.val, by omega⟩ : Fin 2048)
  rw [funext (row_pay1 x0 b q)] at h
  rw [← h]
  refine Finset.sum_congr rfl fun c _ => ?_
  rw [coef, dif_pos c.isLt]

open Idealize.ShloMosaic.Pipeline (Dat)

variable (m : (ℓ : Loc nD τ sig) → Buf (Elt Ideal) ℓ)

/-- The blocks that the point `t` of the grid works on. -/
theorem idx : ∀ t : Fin cfg0.N, win0_0.index t = ![0, t.val, 0] ∧ win0_1.index t = ![0, 0] ∧ win0_2.index t = ![0, t.val] :=
  (by decide +kernel : ∀ t : Fin grid0.N, _)

/-- The negative log likelihood of every patch, from the launch contents of the arguments. -/
def out (c : Dev nD) : FVec Ideal S4x16384 .f32 := fun y =>
  nll fun k => dens (coef (m ((c.tc : Thread nD τ).loc main_arg1)) k) (elem (m ((c.tc : Thread nD τ).loc main_arg0)) (y 0) (y 1))

/-- The kernel's load of its whole first window. -/
theorem pay35 (A : Vec Ideal S4x512x36 .f32) (B : Vec Ideal S200x848 .bf16) : k0_pay35 A B = k0_pay1 A := by
  unfold k0_pay35
  frame_out

/-- The patches of the point `t`'s block. -/
theorem iblk0 (c : Dev nD) (t : Fin cfg0.N) (b : Fin 4) (q : Fin 512) :
    elem (iblk m c 0 t) b q = elem (m ((c.tc : Thread nD τ).loc main_arg0)) b
      (⟨t.val * 512 + q.val, by have : t.val < 32 := t.isLt; omega⟩ : Fin 16384) := by
  funext i
  unfold elem
  split_ifs with h
  · blk_point [iblk, V, idx t]
  · rfl

/-- The table of the point `t`'s block is the whole one. -/
theorem iblk1 (c : Dev nD) (t : Fin cfg0.N) : iblk m c 1 t = m ((c.tc : Thread nD τ).loc main_arg1) := by
  funext y
  blk_point [iblk, V, idx t]

/-- After the run the kernel's array holds them. -/
theorem final (c : Dev nD) : (dats m 0 c).arrAt 2 (cfgs 0).N = out m c := by
  refine (dats m 0 c).arrAt_eq_of_covers 2 _ (by decide +kernel) fun t _ y => ?_
  blk_simp
  rw [after0_2]; frame_out
  rw [pay35, payload]
  obtain ⟨b, q, rfl⟩ : ∃ (b : Fin 4) (q : Fin 512), y = ix2 b q := ⟨y 0, y 1, eq_ix2 y⟩
  rw [tail_feat, iblk1]
  simp only [iblk0]
  have e : (((View.whole main_v0).slice (win0_2.rect t)).emb (ix2 b q)) = ix2 b (⟨t.val * 512 + q.val, by have : t.val < 32 := t.isLt; omega⟩ : Fin 16384) := by
    blk_ext [idx t]
  rw [e]
  rfl

end Cert.Point

end
-- ==== Proof.Ref.lean ====
/- The reference's result, element by element. -/
module

public import proofs.«01_k».proof.Proof.Gen.ReferenceIdeal.Run
public import Idealize.ShloMosaic.Lib.Pipeline.ValueKit
public import proofs.«01_k».proof.Proof.Quad
public import Idealize.ShloMosaic.Lib.IdealHost

@[expose] public section

set_option maxRecDepth 16384

noncomputable section

namespace Cert.Ref

open Idealize.ShloMosaic Idealize.ShloMosaic.TcCoe Cert.Quad Cert.ReferenceIdeal Cert.ReferenceIdeal.Gen Cert.ReferenceIdeal.Value

/-- The table's entries at the columns of the matrix of inverse covariances. -/
def gathered (W : FVec Ideal S200x848 .bf16) : FVec Ideal S200x36x36 .f32 :=
  Host.gather gather_S200x848_S36x36x1_S200x36x36_0_1_n_n_1_2_2001 (extf .f32 W bitsLt_bf16_f32)
    (broadcastInDim S36x36x1 ![0, 1] bcast_S36x36_S36x36x1_0_1 fun i => lit0 (S36x36.rowMajor i))

/-- The factor of an entry: one on the diagonal, a half off it. -/
def factor : FVec Ideal S36x36 .f32 :=
  select (cmpi .eq (iotaInDim S36x36 32 0) (iotaInDim S36x36 32 1))
    (broadcastInDim S36x36 ![] bcast_S_S36x36 (constant S_ .f32 0x3F800000#32))
    (broadcastInDim S36x36 ![] bcast_S_S36x36 (constant S_ .f32 0x3F000000#32))

/-- The components' log densities of every patch. -/
def scores (x : FVec Ideal S4x16384x36 .f32) (W : FVec Ideal S200x848 .bf16) : FVec Ideal S65536x200 .f32 :=
  let xf : FVec Ideal S65536x36 .f32 := shapeCast S65536x36 x shapeCasts_S4x16384x36_S65536x36
  let T : FVec Ideal S200x848 .f32 := extf .f32 W bitsLt_bf16_f32
  let z : FVec Ideal S_ .f32 := constant S_ .f32 0x00000000#32
  mulf (broadcastInDim S65536x200 ![] bcast_S_S65536x200 (constant S_ .f32 0xBF000000#32))
    (addf (addf
      (Host.reduceAdd (mulf
          (Host.dotGeneral dot_S65536x36_S200x36x36_S65536x200x36_1_1_0_02_n_n none xf
            (mulf (gathered W) (broadcastInDim S200x36x36 ![0, 1, 2] bcast_S1x36x36_S200x36x36_0_1_2
              (broadcastInDim S1x36x36 ![1, 2] bcast_S36x36_S1x36x36_1_2 factor))))
          (broadcastInDim S65536x200x36 ![0, 1, 2] bcast_S65536x1x36_S65536x200x36_0_1_2
            (broadcastInDim S65536x1x36 ![0, 2] bcast_S65536x36_S65536x1x36_0_2 xf))) z reducesTo_S65536x200x36_S65536x200_d2 h_S_)
      (Host.dotGeneral dot_S65536x36_S36x200_S65536x200_1_0_0_1_n_n none xf
        (transpose S36x200 [1, 0] (extractStridedSlice S200x36 ![0, 800] T slices_S200x848_S200x36_0_800) transposes_S200x36_S36x200_1_0)))
      (broadcastInDim S65536x200 ![0, 1] bcast_S1x200_S65536x200_0_1 (broadcastInDim S1x200 ![1] bcast_S200_S1x200_1
        (Host.reduceAdd (extractStridedSlice S200x8 ![0, 840] T slices_S200x848_S200x8_0_840) z reducesTo_S200x8_S200_d1 h_S_))))

/-- The log-sum-exp of the scores of every patch, negated. -/
def result (s : FVec Ideal S65536x200 .f32) : FVec Ideal S4x16384 .f32 :=
  let m : FVec Ideal S65536 .f32 := Host.reduce FloatOps.maximumf s (constant S_ .f32 0xFF800000#32) reducesTo_S65536x200_S65536_d1 h_S_
  shapeCast S4x16384 (Host.negf (addf (Host.log (Host.reduceAdd (Host.exp (subf s
    (broadcastInDim S65536x200 ![0, 1] bcast_S65536x1_S65536x200_0_1 (broadcastInDim S65536x1 ![0] bcast_S65536_S65536x1_0 m))))
      (constant S_ .f32 0x00000000#32) reducesTo_S65536x200_S65536_d1 h_S_)) m)) shapeCasts_S65536_S4x16384

/-- The reference's result, by these names. -/
theorem res_eq (m : (ℓ : Loc nD τ sig) → Buf (Elt Ideal) ℓ) (c : Dev nD) :
    res_out0 m c = result (scores (m ((c.tc : Thread nD τ).loc main_arg0)) (m ((c.tc : Thread nD τ).loc main_arg1))) := rfl

/-- The result of a patch. -/
theorem result_apply (s : FVec Ideal S65536x200 .f32) (b : Fin 4) (n : Fin 16384) :
    result s (ix2 b n) = nll fun k => s (ix2 ⟨b.val * 16384 + n.val, by omega⟩ k) := by
  pointwise [result]
  rfl

/-- The factor read at an index. -/
theorem factor_apply (i j : Fin 36) : factor (ix2 i j) = ((if i.val = j.val then 1 else 1 / 2 : ℝ) : EReal) := by
  have hh : Ideal.ofBits .f32 0x3F000000#32 = (((1 : ℝ) / 2 : ℝ) : EReal) := by
    simp [Ideal.ofBits, Ideal.ieee, -EReal.coe_mul]; norm_num
  pointwise [factor]
  by_cases h : i.val = j.val
  · rw [h, if_pos rfl]
    simp [Scalar.select, IntOp.cmpi]
  · rw [hh, if_neg h]
    have : BitVec.ofNat 32 i.val ≠ BitVec.ofNat 32 j.val := fun e => h (by
      have := congrArg BitVec.toNat e
      simp only [BitVec.toNat_ofNat] at this
      omega)
    simp only [Scalar.select, IntOp.cmpi, beq_eq_false_iff_ne.mpr this]
    rfl

/-- The table of columns holds the column of every entry. -/
theorem column : ∀ i j : Fin 36, min (lit0 (S36x36.rowMajor (ix2 i j))).toInt.toNat (848 - 1) = col i.val j.val := by
  decide +kernel

/-- Every entry's column is one of the table's. -/
theorem col_lt : ∀ i j : Fin 36, col i.val j.val < 848 := by
  decide +kernel

/-- An entry of the table, gathered. -/
theorem gathered_apply (W : FVec Ideal S200x848 .bf16) (k : Fin 200) (i j : Fin 36) :
    gathered W (ix3 k i j) = W (ix2 k ⟨col i.val j.val, col_lt i j⟩) := by
  unfold gathered Host.gather
  refine congrArg W (funext fun a => Fin.ext ?_)
  generalize hI : (broadcastInDim S36x36x1 ![0, 1] bcast_S36x36_S36x36x1_0_1 fun i => lit0 (S36x36.rowMajor i)) = I
  let d := gather_S200x848_S36x36x1_S200x36x36_0_1_n_n_1_2_2001
  show d.start (ix3 k i j) I a + d.batchCoord (ix3 k i j) a + d.offCoord (ix3 k i j) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · have hs : d.start (ix3 k i j) I 0 = 0 := by
      unfold GatherDims.start
      exact dif_neg (fun h => absurd (List.mem_singleton.mp h) (by decide))
    rw [hs, Nat.zero_add]
    unfold GatherDims.offCoord
    rw [dif_pos ((GatherDims.mem_sKept _ _).mpr ⟨fun h => absurd (List.mem_singleton.mp h) (by decide), List.not_mem_nil⟩)]
    rfl
  · rw [GatherDims.offCoord_eq_zero _ _ _ (fun h => ((GatherDims.mem_sKept _ _).mp h).1 (List.mem_singleton.mpr rfl)),
      Nat.add_zero]
    unfold GatherDims.start
    rw [dif_pos (show (1 : Fin 2) ∈ d.startIndexMap from List.mem_singleton.mpr rfl)]
    have hsi : d.siIdx (ix3 k i j) ⟨List.idxOf (1 : Fin 2) d.startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi, ← hI]
    refine Eq.trans ?_ (column i j)
    have e : broadcastInDim S36x36x1 ![0, 1] bcast_S36x36_S36x36x1_0_1 (fun i => lit0 (S36x36.rowMajor i)) (ix3 i j (0 : Fin 1))
        = lit0 (S36x36.rowMajor (ix2 i j)) := by
      generalize hL : (fun i => lit0 (S36x36.rowMajor i)) = L
      have : lit0 (S36x36.rowMajor (ix2 i j)) = L (ix2 i j) := by rw [← hL]
      rw [this]
      pointwise
    rw [e]
    rfl

/-- A component's log density of a patch, as sums over the patch's elements. -/
theorem scores_apply (x : FVec Ideal S4x16384x36 .f32) (W : FVec Ideal S200x848 .bf16) (b : Fin 4) (n : Fin 16384) (k : Fin 200) :
    scores x W (ix2 ⟨b.val * 16384 + n.val, by omega⟩ k)
      = Ideal.ofBits .f32 0xBF000000#32
        * ((∑ j : Fin 36, (∑ i : Fin 36, x (ix3 b n i)
                * (W (ix2 k ⟨col i.val j.val, col_lt i j⟩) * factor (ix2 i j))) * x (ix3 b n j))
            + (∑ i : Fin 36, x (ix3 b n i) * W (ix2 k ⟨800 + i.val, by omega⟩))
            + ∑ i : Fin 8, W (ix2 k ⟨840 + i.val, by omega⟩)) := by
  pointwise [scores]
  have hb : (⟨(b.val * 16384 + n.val) / 16384, by omega⟩ : Fin 4) = b := Fin.ext (by simp only; omega)
  have hn : (⟨(b.val * 16384 + n.val) % 16384, by omega⟩ : Fin 16384) = n := Fin.ext (by simp only; omega)
  simp only [hb, hn, gathered_apply]

end Cert.Ref

end
-- ==== Proof.Agree.lean ====
/- The kernel's scores of finite patches are the reference's. -/
module

public import proofs.«01_k».proof.Proof.Point
public import proofs.«01_k».proof.Proof.Ref
public import proofs.«01_k».proof.Proof.Gen.Pre_finite
public import proofs.«01_k».proof.Defs

@[expose] public section

set_option maxRecDepth 16384

noncomputable section

namespace Cert.Agree

open Idealize.ShloMosaic Idealize.ShloMosaic.TcCoe Cert.Quad Cert.Point Cert.Ref

/-- A number whose absolute value is below infinity is a real. -/
theorem real_of_olt (a : EReal) (h : FloatOps.cmpf (F := Ideal) (φ := .f32) .olt (FloatOps.absf (F := Ideal) (φ := .f32) a)
    (Ideal.ofBits .f32 0x7F800000#32) = 1#1) : ∃ r : ℝ, a = r := by
  have ht : Ideal.ofBits .f32 0x7F800000#32 = (⊤ : EReal) := by
    simp [Ideal.ofBits, Ideal.ieee]
  rw [ht] at h
  have h' : BitVec.ofBool (decide (max a (-a) < ⊤)) = 1#1 := h
  have hlt : max a (-a) < ⊤ := by
    by_contra hn
    rw [decide_eq_false hn] at h'
    exact absurd h' (by decide)
  obtain ⟨h1, h2⟩ := max_lt_iff.mp hlt
  induction a with
  | bot => simp at h2
  | coe r => exact ⟨r, rfl⟩
  | top => simp at h1

section

variable (x : FVec Ideal ⟨3, ![4, 16384, 36]⟩ .f32) (W : FVec Ideal ⟨2, ![200, 848]⟩ .bf16)
  (hx : ∀ i, ∃ r : ℝ, x i = r) (hW : ∀ i, ∃ r : ℝ, W i = r)

include hW in
/-- The coefficients of a finite table are real. -/
theorem coef_real (k : Fin 200) (c : ℕ) : ∃ r : ℝ, coef W k c = r := by
  unfold coef
  split_ifs
  · exact hW _
  · exact ⟨0, rfl⟩

include hx in
/-- The elements of a finite patch are real. -/
theorem elem_real (b : Fin 4) (n : Fin 16384) (i : ℕ) : ∃ r : ℝ, elem x b n i = r := by
  unfold elem
  split_ifs
  · exact hx _
  · exact ⟨0, rfl⟩

include hx hW in
/-- The kernel's score of a component and a patch is the reference's. -/
theorem dens_eq (b : Fin 4) (n : Fin 16384) (k : Fin 200) :
    dens (coef W k) (elem x b n) = scores x W (ix2 (⟨b.val * 16384 + n.val, by omega⟩ : Fin 65536) k) := by
  rw [scores_apply]
  unfold dens
  have h := Quad.score (coef W k) (elem x b n) (fun i j => ((if i = j then 1 else 1 / 2 : ℝ) : EReal)) (coef_real W hW k) (elem_real x hx b n)
    (fun _ _ => rfl)
  rw [h]
  have hc : ∀ c (hc : c < 848), coef W k c = W (ix2 k ⟨c, hc⟩) := fun c hc => dif_pos hc
  have he : ∀ i : Fin 36, elem x b n i.val = x (ix3 b n i) := fun i => dif_pos i.isLt
  simp only [← Fin.sum_univ_eq_sum_range (n := 36) (fun j => (∑ i ∈ Finset.range 36, elem x b n i * (coef W k (col i j) * ((if i = j then 1 else 1 / 2 : ℝ) : EReal))) * elem x b n j),
    ← Fin.sum_univ_eq_sum_range (n := 36) (fun i => elem x b n i * coef W k (800 + i)),
    ← Fin.sum_univ_eq_sum_range (n := 8) (fun i => coef W k (840 + i))]
  refine congrArg (Ideal.ofBits .f32 0xBF000000#32 * ·) ?_
  refine congrArg₂ (· + ·) (congrArg₂ (· + ·) (Finset.sum_congr rfl fun j _ => ?_) (Finset.sum_congr rfl fun i _ => ?_))
    (Finset.sum_congr rfl fun i _ => hc _ _)
  · rw [he, ← Fin.sum_univ_eq_sum_range (n := 36) (fun i => elem x b n i * (coef W k (col i j) * ((if i = j.val then 1 else 1 / 2 : ℝ) : EReal)))]
    refine congrArg (· * _) (Finset.sum_congr rfl fun i _ => ?_)
    rw [he, factor_apply, hc _ (col_lt i j)]
  · rw [he, hc _ (by omega)]

end

/-- The two results agree where the arguments are finite. -/
theorem out_eq (m : (ℓ : Loc Cert.KernelIdeal.nD Cert.KernelIdeal.τ Cert.KernelIdeal.sig) → Buf (Elt Ideal) ℓ)
    (hpre : Cert.Pre_KernelIdeal_finite (hPre_finite := Cert.Pre_finite.Gen.facts) m) (c : Dev Cert.KernelIdeal.nD) :
    out m c = result (scores (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) := by
  have hx : ∀ i : (⟨3, ![4, 16384, 36]⟩ : Shape).Idx, ∃ r : ℝ, m ((c.tc : Thread Cert.KernelIdeal.nD Cert.KernelIdeal.τ).loc Cert.KernelIdeal.main_arg0) i = (r : EReal) :=
    fun i => real_of_olt _ (congrFun (hpre c).1 i)
  have hW : ∀ i : (⟨2, ![200, 848]⟩ : Shape).Idx, ∃ r : ℝ, m ((c.tc : Thread Cert.KernelIdeal.nD Cert.KernelIdeal.τ).loc Cert.KernelIdeal.main_arg1) i = (r : EReal) :=
    fun i => real_of_olt _ (congrFun (hpre c).2 i)
  funext y
  obtain ⟨b, n, rfl⟩ : ∃ (b : Fin 4) (n : Fin 16384), y = ix2 b n := ⟨y 0, y 1, eq_ix2 y⟩
  rw [result_apply]
  exact congrArg nll (funext fun k => dens_eq _ _ hx hW b n k)

end Cert.Agree

end
-- ==== Proof.lean ====
/- The claims: the frames of the kernel and of the reference, and that the two results agree where the arguments are finite. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  exact (θ_run _ _ _).mono (fun r h => ⟨fun c => (h c).2, sem_eq_zero_of_no_sems (by decide) r.2⟩) (Cert.ReferenceIdeal.Value.run m g)

/-- From equal finite arguments the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.Point.out m c, ?_, ?_⟩
  · refine (θ_run _ _ _).mono (fun r h c => ⟨(h c).1.trans (Cert.Point.final m c), (h c).2⟩) (Cert.KernelIdeal.Value.run_blocks m g)
  · refine (θ_run _ _ _).mono (fun r h c => ⟨(h c).1.trans ?_, (h c).2⟩) (Cert.ReferenceIdeal.Value.run m' g')
    refine (Cert.Ref.res_eq m' c).trans ?_
    rw [(hargs c).1, (hargs c).2]
    exact (Cert.Agree.out_eq m hpre c).symm

/-- Every claim made of the three programs. -/
theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => reference m g, fun m g _ => reference m g, trivial, algebraic⟩

end Cert.Proof

end
